-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096 : Shape := ⟨1, ![4096]⟩
abbrev S4096x1 : Shape := ⟨2, ![4096, 1]⟩
abbrev S1x4096 : Shape := ⟨2, ![1, 4096]⟩
abbrev S16777216 : Shape := ⟨1, ![16777216]⟩
abbrev S256x128 : Shape := ⟨2, ![256, 128]⟩
abbrev S256x1 : Shape := ⟨2, ![256, 1]⟩
abbrev S1048576 : Shape := ⟨1, ![1048576]⟩
abbrev S256x4096 : Shape := ⟨2, ![256, 4096]⟩
abbrev S256 : Shape := ⟨1, ![256]⟩

abbrev nBuf : Space → Nat
  | .hbm => 6
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S16777216, .f32⟩
  | .hbm, ⟨5, _⟩ => ⟨S16777216, .f32⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S256x1, .i32⟩
  | .local _ .vmem, ⟨4, _⟩ => ⟨S256x1, .i32⟩
  | .local _ .vmem, ⟨5, _⟩ => ⟨S1x4096, .i32⟩
  | .local _ .vmem, ⟨6, _⟩ => ⟨S1048576, .f32⟩
  | .local _ .vmem, ⟨7, _⟩ => ⟨S1048576, .f32⟩
  | .local _ .vmem, ⟨8, _⟩ => ⟨S1048576, .f32⟩
  | .local _ .vmem, ⟨9, _⟩ => ⟨S1048576, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1048576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1048576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x128 : Shape := ⟨2, ![4096, 128]⟩
abbrev S4096 : Shape := ⟨1, ![4096]⟩
abbrev S128x4096 : Shape := ⟨2, ![128, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩
abbrev S16777216 : Shape := ⟨1, ![16777216]⟩

abbrev nBuf : Space → Nat
  | .hbm => 166
  | .vmem => 0
  | .smem => 0
  | _ => 0

abbrev hbmTy0_0 (i : Nat) : BufTy := match i % 128 with
  | 0 => ⟨S4096x128, .f32⟩
  | 1 => ⟨S4096, .i32⟩
  | 2 => ⟨S128x4096, .f32⟩
  | 3 => ⟨S4096x4096, .f32⟩
  | 4 => ⟨S4096x1, .i32⟩
  | 5 => ⟨S1x4096, .i32⟩
  | 6 => ⟨S4096x4096, .i32⟩
  | 7 => ⟨S4096x4096, .i32⟩
  | 8 => ⟨S4096x4096, .i1⟩
  | 9 => ⟨S_, .f32⟩
  | 10 => ⟨S4096x4096, .f32⟩
  | 11 => ⟨S4096x4096, .i1⟩
  | 12 => ⟨S4096x4096, .i1⟩
  | 13 => ⟨S4096x4096, .i1⟩
  | 14 => ⟨S_, .f32⟩
  | 15 => ⟨S4096x4096, .f32⟩
  | 16 => ⟨S4096x4096, .f32⟩
  | 17 => ⟨S_, .f32⟩
  | 18 => ⟨S4096, .f32⟩
  | 19 => ⟨S_, .f32⟩
  | 20 => ⟨S4096, .f32⟩
  | 21 => ⟨S4096, .f32⟩
  | 22 => ⟨S_, .f32⟩
  | 23 => ⟨S4096x4096, .f32⟩
  | 24 => ⟨S4096x4096, .f32⟩
  | 25 => ⟨S_, .f32⟩
  | 26 => ⟨S4096, .f32⟩
  | 27 => ⟨S_, .f32⟩
  | 28 => ⟨S4096, .f32⟩
  | 29 => ⟨S4096, .f32⟩
  | 30 => ⟨S_, .f32⟩
  | 31 => ⟨S4096x4096, .f32⟩
  | 32 => ⟨S4096x4096, .f32⟩
  | 33 => ⟨S4096x1, .f32⟩
  | 34 => ⟨S4096x4096, .f32⟩
  | 35 => ⟨S4096x4096, .i1⟩
  | 36 => ⟨S4096x4096, .i1⟩
  | 37 => ⟨S_, .f32⟩
  | 38 => ⟨S4096x4096, .f32⟩
  | 39 => ⟨S4096x4096, .f32⟩
  | 40 => ⟨S4096x1, .f32⟩
  | 41 => ⟨S4096x4096, .f32⟩
  | 42 => ⟨S4096x4096, .i1⟩
  | 43 => ⟨S4096x4096, .i1⟩
  | 44 => ⟨S_, .i1⟩
  | 45 => ⟨S4096, .i1⟩
  | 46 => ⟨S_, .i1⟩
  | 47 => ⟨S4096, .i1⟩
  | 48 => ⟨S4096, .i1⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S_, .f32⟩
  | 56 => ⟨S4096x4096, .f32⟩
  | 57 => ⟨S4096x4096, .f32⟩
  | 58 => ⟨S_, .f32⟩
  | 59 => ⟨S4096x4096, .f32⟩
  | 60 => ⟨S4096x4096, .f32⟩
  | 61 => ⟨S_, .f32⟩
  | 62 => ⟨S4096x4096, .f32⟩
  | 63 => ⟨S4096x4096, .f32⟩
  | 64 => ⟨S4096x4096, .f32⟩
  | 65 => ⟨S4096x4096, .f32⟩
  | 66 => ⟨S4096x4096, .i1⟩
  | 67 => ⟨S4096x4096, .f32⟩
  | 68 => ⟨S4096x4096, .f32⟩
  | 69 => ⟨S4096x4096, .f32⟩
  | 70 => ⟨S4096x4096, .f32⟩
  | 71 => ⟨S4096x4096, .f32⟩
  | 72 => ⟨S4096x4096, .f32⟩
  | 73 => ⟨S4096x4096, .f32⟩
  | 74 => ⟨S4096x4096, .f32⟩
  | 75 => ⟨S_, .f32⟩
  | 76 => ⟨S4096x4096, .f32⟩
  | 77 => ⟨S4096x4096, .f32⟩
  | 78 => ⟨S_, .f32⟩
  | 79 => ⟨S4096x4096, .f32⟩
  | 80 => ⟨S4096x4096, .f32⟩
  | 81 => ⟨S4096x4096, .f32⟩
  | 82 => ⟨S4096x4096, .f32⟩
  | 83 => ⟨S4096x4096, .i1⟩
  | 84 => ⟨S4096x4096, .f32⟩
  | 85 => ⟨S4096x4096, .f32⟩
  | 86 => ⟨S4096x4096, .f32⟩
  | 87 => ⟨S4096x4096, .f32⟩
  | 88 => ⟨S4096x4096, .f32⟩
  | 89 => ⟨S4096x4096, .f32⟩
  | 90 => ⟨S4096x4096, .f32⟩
  | 91 => ⟨S4096x4096, .f32⟩
  | 92 => ⟨S_, .f32⟩
  | 93 => ⟨S4096x4096, .f32⟩
  | 94 => ⟨S4096x4096, .f32⟩
  | 95 => ⟨S4096x4096, .i32⟩
  | 96 => ⟨S_, .i32⟩
  | 97 => ⟨S4096, .i32⟩
  | 98 => ⟨S_, .i32⟩
  | 99 => ⟨S4096, .i32⟩
  | 100 => ⟨S4096, .i32⟩
  | 101 => ⟨S4096, .f32⟩
  | 102 => ⟨S4096x4096, .i32⟩
  | 103 => ⟨S_, .i32⟩
  | 104 => ⟨S4096, .i32⟩
  | 105 => ⟨S_, .i32⟩
  | 106 => ⟨S4096, .i32⟩
  | 107 => ⟨S4096, .i32⟩
  | 108 => ⟨S4096, .f32⟩
  | 109 => ⟨S4096x4096, .f32⟩
  | 110 => ⟨S4096x4096, .f32⟩
  | 111 => ⟨S_, .f32⟩
  | 112 => ⟨S4096x4096, .f32⟩
  | 113 => ⟨S4096x4096, .f32⟩
  | 114 => ⟨S_, .f32⟩
  | 115 => ⟨S4096x4096, .f32⟩
  | 116 => ⟨S4096x4096, .f32⟩
  | 117 => ⟨S_, .f32⟩
  | 118 => ⟨S4096x4096, .f32⟩
  | 119 => ⟨S4096x4096, .f32⟩
  | 120 => ⟨S4096x1, .f32⟩
  | 121 => ⟨S4096x4096, .f32⟩
  | 122 => ⟨S4096x4096, .f32⟩
  | 123 => ⟨S4096x4096, .f32⟩
  | 124 => ⟨S4096x4096, .f32⟩
  | 125 => ⟨S_, .f32⟩
  | 126 => ⟨S4096x4096, .f32⟩
  | 127 => ⟨S4096x4096, .f32⟩
  | _ => ⟨S4096x128, .f32⟩

abbrev hbmTy0_1 (i : Nat) : BufTy := match i % 128 with
  | 0 => ⟨S_, .f32⟩
  | 1 => ⟨S4096x4096, .f32⟩
  | 2 => ⟨S4096x4096, .f32⟩
  | 3 => ⟨S_, .f32⟩
  | 4 => ⟨S4096x4096, .f32⟩
  | 5 => ⟨S4096x4096, .f32⟩
  | 6 => ⟨S4096x1, .f32⟩
  | 7 => ⟨S4096x4096, .f32⟩
  | 8 => ⟨S4096x4096, .f32⟩
  | 9 => ⟨S4096x1, .i1⟩
  | 10 => ⟨S4096x4096, .i1⟩
  | 11 => ⟨S4096x4096, .i1⟩
  | 12 => ⟨S_, .f32⟩
  | 13 => ⟨S_, .f32⟩
  | 14 => ⟨S4096x4096, .f32⟩
  | 15 => ⟨S4096x4096, .f32⟩
  | 16 => ⟨S4096x4096, .i1⟩
  | 17 => ⟨S4096x4096, .i1⟩
  | 18 => ⟨S_, .f32⟩
  | 19 => ⟨S_, .f32⟩
  | 20 => ⟨S4096x4096, .f32⟩
  | 21 => ⟨S4096x4096, .f32⟩
  | 22 => ⟨S4096x4096, .f32⟩
  | 23 => ⟨S4096x4096, .i1⟩
  | 24 => ⟨S4096x4096, .i1⟩
  | 25 => ⟨S_, .f32⟩
  | 26 => ⟨S_, .f32⟩
  | 27 => ⟨S4096x4096, .f32⟩
  | 28 => ⟨S4096x4096, .f32⟩
  | 29 => ⟨S4096x4096, .i1⟩
  | 30 => ⟨S4096x4096, .i1⟩
  | 31 => ⟨S_, .f32⟩
  | 32 => ⟨S_, .f32⟩
  | 33 => ⟨S4096x4096, .f32⟩
  | 34 => ⟨S4096x4096, .f32⟩
  | 35 => ⟨S4096x4096, .f32⟩
  | 36 => ⟨S16777216, .f32⟩
  | 37 => ⟨S16777216, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_call0_v0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_call1_v0 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_16 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_17 : Ref sig .tc := ⟨.hbm, 96, rfl⟩
abbrev main_v73 : Ref sig .tc := ⟨.hbm, 97, rfl⟩
abbrev main_c_18 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_19 : Ref sig .tc := ⟨.hbm, 103, rfl⟩
abbrev main_v78 : Ref sig .tc := ⟨.hbm, 104, rfl⟩
abbrev main_c_20 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_21 : Ref sig .tc := ⟨.hbm, 111, rfl⟩
abbrev main_v84 : Ref sig .tc := ⟨.hbm, 112, rfl⟩
abbrev main_v85 : Ref sig .tc := ⟨.hbm, 113, rfl⟩
abbrev main_cst_22 : Ref sig .tc := ⟨.hbm, 114, rfl⟩
abbrev main_v86 : Ref sig .tc := ⟨.hbm, 115, rfl⟩
abbrev main_v87 : Ref sig .tc := ⟨.hbm, 116, rfl⟩
abbrev main_cst_23 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_24 : Ref sig .tc := ⟨.hbm, 125, rfl⟩
abbrev main_v95 : Ref sig .tc := ⟨.hbm, 126, rfl⟩
abbrev main_v96 : Ref sig .tc := ⟨.hbm, 127, rfl⟩
abbrev main_cst_25 : Ref sig .tc := ⟨.hbm, 128, rfl⟩
abbrev main_v97 : Ref sig .tc := ⟨.hbm, 129, rfl⟩
abbrev main_v98 : Ref sig .tc := ⟨.hbm, 130, rfl⟩
abbrev main_cst_26 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_27 : Ref sig .tc := ⟨.hbm, 140, rfl⟩
abbrev main_call2_v0 : Ref sig .tc := ⟨.hbm, 141, rfl⟩
abbrev main_call2_v1 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_28 : Ref sig .tc := ⟨.hbm, 146, rfl⟩
abbrev main_call3_v0 : Ref sig .tc := ⟨.hbm, 147, rfl⟩
abbrev main_call3_v1 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_29 : Ref sig .tc := ⟨.hbm, 153, rfl⟩
abbrev main_call4_v0 : Ref sig .tc := ⟨.hbm, 154, rfl⟩
abbrev main_call4_v1 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_30 : Ref sig .tc := ⟨.hbm, 159, rfl⟩
abbrev main_call5_v0 : Ref sig .tc := ⟨.hbm, 160, rfl⟩
abbrev main_call5_v1 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩

abbrev nD : Nat := 1
abbrev τ : Topo := Topo.v7x

variable {F : FTy → Type} [FloatOps F]
-- ==== Proof.Row.lean ====
/-
  One row of the loss, on extended reals. `s` is the row of similarities and `b` the row of "same class" bits; everything
  either program leaves at a column of the row is a function of the two. The masks are the same expressions on both
  sides; what differs is how the two sides count the kept pairs (a float sum against an integer sum and an `or`), how
  they write `log (1 + exp z)` and the logistic function, and whether they choose the sign of the pair before or after
  the pointwise work. This file states both forms and proves them equal, for every extended real.
-/
module

public import Idealize.ShloMosaic.PureOps.Ideal.Laws
public import Idealize.ShloMosaic.Lib.IndicatorCount
public import Idealize.ShloMosaic.Lib.KernelVsHost
public import Idealize.ShloMosaic.Lib.ValueIdx

@[expose] public section

noncomputable section

namespace Cert.PairLoss

open Idealize.ShloMosaic

/-- The number an f32 word denotes. -/
abbrev lit (w : BitVec 32) : Ideal .f32 := FloatOps.ofBits .f32 w

theorem lit_zero : lit 0x00000000#32 = 0 := Ideal.ofBits_zero_f32

theorem lit_one : lit 0x3F800000#32 = 1 := by
  show Ideal.ofBits .f32 0x3F800000#32 = 1
  simp [Ideal.ofBits, Ideal.ieee, -EReal.coe_mul]
  norm_num

theorem lit_top : lit 0x7F800000#32 = ⊤ := by
  show Ideal.ofBits .f32 0x7F800000#32 = ⊤
  simp [Ideal.ofBits, Ideal.ieee]

theorem lit_bot : lit 0xFF800000#32 = ⊥ := by
  show Ideal.ofBits .f32 0xFF800000#32 = ⊥
  simp [Ideal.ofBits, Ideal.ieee]

/-- The kernel writes minus infinity as zero minus infinity. -/
theorem zero_sub_top : FloatOps.subf (lit 0x00000000#32) (lit 0x7F800000#32) = lit 0xFF800000#32 := by
  rw [lit_zero, lit_top, lit_bot]
  show (0 : EReal) - ⊤ = ⊥
  simp

/-! ## Log of one plus exp, and the logistic function -/

/-- `exp (-|z|)` as the kernel writes it. -/
def kExp (z : Ideal .f32) : Ideal .f32 := FloatOps.exp (FloatOps.subf (lit 0x00000000#32) (FloatOps.absf z))

/-- `log (1 + exp z)` as the kernel writes it. -/
def kLse (z : Ideal .f32) : Ideal .f32 :=
  FloatOps.addf (FloatOps.maximumf z (lit 0x00000000#32)) (FloatOps.log1p (kExp z))

/-- The logistic function as the kernel writes it: by the sign of its argument. -/
def kSig (z : Ideal .f32) : Ideal .f32 :=
  Scalar.select (FloatOps.cmpf .oge z (lit 0x00000000#32))
    (FloatOps.divf (lit 0x3F800000#32) (FloatOps.addf (lit 0x3F800000#32) (kExp z)))
    (FloatOps.mulf (kExp z) (FloatOps.divf (lit 0x3F800000#32) (FloatOps.addf (lit 0x3F800000#32) (kExp z))))

/-- `log (1 + exp z)` as the reference writes it. -/
def rLse (z : Ideal .f32) : Ideal .f32 :=
  Scalar.select (FloatOps.cmpf .une (FloatOps.subf (lit 0x00000000#32) z) (FloatOps.subf (lit 0x00000000#32) z))
    (FloatOps.addf (lit 0x00000000#32) z)
    (FloatOps.addf (FloatOps.maximumf (lit 0x00000000#32) z)
      (FloatOps.hostUnary .log1p (FloatOps.hostUnary .exp (FloatOps.hostNegf
        (FloatOps.hostAbsf (FloatOps.subf (lit 0x00000000#32) z))))))

/-- The logistic function as the reference writes it. -/
def rSig (z : Ideal .f32) : Ideal .f32 :=
  FloatOps.hostDivf (lit 0x3F800000#32)
    (FloatOps.addf (lit 0x3F800000#32) (FloatOps.hostUnary .exp (FloatOps.hostNegf z)))

theorem kExp_eq (z : EReal) : kExp z = Ideal.exp (-(max z (-z))) := by
  unfold kExp
  rw [lit_zero]
  show Ideal.exp ((0 : EReal) - max z (-z)) = _
  rw [zero_sub]

theorem kLse_eq_rLse (z : EReal) : kLse z = rLse z := by
  unfold kLse rLse
  rw [kExp_eq, lit_zero]
  have h : FloatOps.cmpf (F := Ideal) (φ := .f32) .une (FloatOps.subf (0 : Ideal .f32) z) (FloatOps.subf (0 : Ideal .f32) z) = 0#1 := by
    show Ideal.cmp .une _ _ = _
    simp [Ideal.cmp]
  rw [h, ValueIdx.select_zero]
  show max z 0 + Ideal.log1p (Ideal.exp (-(max z (-z))))
    = max 0 z + Ideal.log1p (Ideal.exp (-(max ((0 : EReal) - z) (-((0 : EReal) - z)))))
  rw [zero_sub, neg_neg, max_comm z 0, max_comm z (-z)]

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem kSig_eq_rSig (z : EReal) : kSig z = rSig z := by
  unfold kSig rSig
  rw [kExp_eq, lit_zero, lit_one]
  show Scalar.select (Ideal.cmp .oge z 0) (Ideal.div 1 (1 + Ideal.exp (-(max z (-z)))))
      (Ideal.exp (-(max z (-z))) * Ideal.div 1 (1 + Ideal.exp (-(max z (-z))))) = Ideal.div 1 (1 + Ideal.exp (-z))
  by_cases hz : (0 : EReal) ≤ z
  · have h : Ideal.cmp .oge z 0 = 1#1 := by simp [Ideal.cmp, hz]
    have hm : max z (-z) = z := max_eq_left (le_trans (EReal.neg_le.mp (by simpa using hz)) hz)
    rw [h, ValueIdx.select_one, hm]
  · have h : Ideal.cmp .oge z 0 = 0#1 := by simp [Ideal.cmp, hz]
    have hz' : z < 0 := not_le.mp hz
    rw [h, ValueIdx.select_zero]
    induction z using EReal.rec with
    | bot =>
      have h1 : (1 : EReal) + ⊤ = ⊤ := by rw [← EReal.coe_one]; exact EReal.coe_add_top 1
      simp [Ideal.div, h1]
    | top => simp at hz'
    | coe r =>
      have hr : r < 0 := by exact_mod_cast hz'
      have hm : max (r : EReal) (-(r : EReal)) = ((-r : ℝ) : EReal) := by
        rw [EReal.coe_neg]; exact max_eq_right (by rw [← EReal.coe_neg]; exact_mod_cast (by linarith))
      rw [hm, ← EReal.coe_neg, ← EReal.coe_neg, neg_neg, Ideal.exp_coe, Ideal.exp_coe, ← EReal.coe_one,
        ← EReal.coe_add, ← EReal.coe_add, div_coe _ _ (by positivity), div_coe _ _ (by positivity), ← EReal.coe_mul]
      congr 1
      have h1 : Real.exp (-r) = (Real.exp r)⁻¹ := Real.exp_neg r
      have h2 : Real.exp r ≠ 0 := (Real.exp_pos r).ne'
      have h3 : (1 : ℝ) + Real.exp r ≠ 0 := by positivity
      have h4 : Real.exp r + 1 ≠ 0 := by positivity
      rw [h1]
      field_simp
      try ring

/-! ## Counting the kept pairs of a row -/

/-- The number of ones in a row of bits. -/
def ones (p : Fin 4096 → BitVec 1) : ℕ := (Finset.univ.filter fun k => p k = 1#1).card

/-- The kernel counts by a float sum of the bits. -/
def kCount (p : Fin 4096 → BitVec 1) : Ideal .f32 :=
  ∑ k : Fin 4096, (FloatOps.sitofp .f32 ((p k).setWidth 32) : Ideal .f32)

/-- The reference counts by an integer sum of the bits. -/
def rCount (p : Fin 4096 → BitVec 1) : BitVec 32 :=
  Finset.univ.fold IntOp.addi (0#32) fun k : Fin 4096 => (p k).setWidth 32

/-- Whether any bit of the row is set, as the reference asks it. -/
def rAny (p : Fin 4096 → BitVec 1) : BitVec 1 := Finset.univ.fold IntOp.ori (0#1) fun k : Fin 4096 => p k

theorem ones_le (p : Fin 4096 → BitVec 1) : ones p ≤ 4096 :=
  (Finset.card_le_univ _).trans (by simp)

theorem sitofp_bit (x : BitVec 1) : (FloatOps.sitofp .f32 (x.setWidth 32) : Ideal .f32) = if x = 1#1 then (1 : EReal) else 0 := by
  show (((x.setWidth 32).toInt : ℝ) : EReal) = _
  rcases (show x = 0#1 ∨ x = 1#1 by revert x; decide) with rfl | rfl <;> simp

theorem kCount_eq (p : Fin 4096 → BitVec 1) : kCount p = ((ones p : ℝ) : EReal) := by
  unfold kCount ones
  rw [Finset.sum_congr rfl fun k _ => sitofp_bit (p k), Finset.sum_ite]
  simp

theorem rCount_toInt (p : Fin 4096 → BitVec 1) : (rCount p).toInt = (ones p : ℤ) := by
  unfold rCount
  rw [IndicatorCount.fold_addi_setWidth_eq_card]
  have h := ones_le p
  have e : (BitVec.ofNat 32 (ones p)).toNat = ones p := by rw [BitVec.toNat_ofNat]; exact Nat.mod_eq_of_lt (by omega)
  rw [BitVec.toInt_eq_toNat_of_lt (by show 2 * (BitVec.ofNat 32 (ones p)).toNat < _; rw [e]; omega)]
  exact_mod_cast e

theorem fold_ori_eq_one (p : Fin 4096 → BitVec 1) (S : Finset (Fin 4096)) :
    S.fold IntOp.ori (0#1) (fun k => p k) = 1#1 ↔ ∃ k ∈ S, p k = 1#1 := by
  classical
  induction S using Finset.induction_on with
  | empty => simp
  | insert a S ha ih =>
    rw [Finset.fold_insert ha]
    have key : ∀ x y : BitVec 1, IntOp.ori x y = 1#1 ↔ x = 1#1 ∨ y = 1#1 := by decide
    rw [key, ih]
    simp

theorem rAny_eq_one (p : Fin 4096 → BitVec 1) : rAny p = 1#1 ↔ 0 < ones p := by
  unfold rAny ones
  rw [fold_ori_eq_one, Finset.card_pos]
  constructor
  · rintro ⟨k, _, hk⟩; exact ⟨k, by simp [hk]⟩
  · rintro ⟨k, hk⟩; exact ⟨k, Finset.mem_univ _, by simpa using hk⟩

/-- The kernel's "the count is positive" is the reference's "some bit is set". -/
theorem count_pos (p : Fin 4096 → BitVec 1) : FloatOps.cmpf .ogt (kCount p) (lit 0x00000000#32) = rAny p := by
  rw [kCount_eq, lit_zero]
  show Ideal.cmp .ogt _ _ = _
  have key : ∀ x y : BitVec 1, (x = 1#1 ↔ y = 1#1) → x = y := by decide
  apply key
  rw [rAny_eq_one]
  by_cases h : 0 < ones p <;> simp [Ideal.cmp, h]

/-- The two sides divide by the same number: the count, or one where the row has no kept pair. -/
theorem count_max (p : Fin 4096 → BitVec 1) :
    FloatOps.maximumf (kCount p) (lit 0x3F800000#32) = (FloatOps.sitofp .f32 (IntOp.maxsi (rCount p) 1#32) : Ideal .f32) := by
  rw [kCount_eq, lit_one]
  show max ((ones p : ℝ) : EReal) 1 = (((IntOp.maxsi (rCount p) 1#32).toInt : ℝ) : EReal)
  have h : (IntOp.maxsi (rCount p) 1#32).toInt = max (ones p : ℤ) 1 := by
    have h1 : (1#32 : BitVec 32).toInt = 1 := by decide
    unfold IntOp.maxsi
    rw [← rCount_toInt p]
    split
    · rename_i hlt; simp [BitVec.slt, BitVec.sle, h1] at hlt; first | rw [h1]; omega | omega
    · rename_i hlt; simp [BitVec.slt, BitVec.sle, h1] at hlt; first | rw [h1]; omega | omega
  rw [h]
  push_cast
  rfl

/-- and that number is not zero. -/
theorem count_max_ne (p : Fin 4096 → BitVec 1) :
    (FloatOps.sitofp .f32 (IntOp.maxsi (rCount p) 1#32) : Ideal .f32) ≠ (0 : EReal) := by
  rw [← count_max, kCount_eq, lit_one]
  show max ((ones p : ℝ) : EReal) 1 ≠ 0
  exact (lt_of_lt_of_le (by exact_mod_cast one_pos) (le_max_right _ _)).ne'

/-! ## The masks of a row -/

/-- A same-class pair whose similarity is below one. -/
def pos (s : Fin 4096 → Ideal .f32) (b : Fin 4096 → BitVec 1) (k : Fin 4096) : BitVec 1 :=
  IntOp.andi (b k) (FloatOps.cmpf .olt (s k) (lit 0x3F800000#32))

/-- The least similarity of those pairs. -/
def minPos (s : Fin 4096 → Ideal .f32) (b : Fin 4096 → BitVec 1) : Ideal .f32 :=
  Finset.univ.fold FloatOps.minimumf (lit 0x7F800000#32) fun k : Fin 4096 => Scalar.select (pos s b k) (s k) (lit 0x7F800000#32)

/-- The greatest similarity of the other-class pairs. -/
def maxNeg (s : Fin 4096 → Ideal .f32) (b : Fin 4096 → BitVec 1) : Ideal .f32 :=
  Finset.univ.fold FloatOps.maximumf (lit 0xFF800000#32) fun k : Fin 4096 => Scalar.select (b k) (lit 0xFF800000#32) (s k)

/-- The other-class pairs kept. -/
def negKeep (s : Fin 4096 → Ideal .f32) (b : Fin 4096 → BitVec 1) (k : Fin 4096) : BitVec 1 :=
  IntOp.andi (~~~(b k)) (FloatOps.cmpf .ogt (FloatOps.addf (s k) (lit 0x3DCCCCCD#32)) (minPos s b))

/-- The same-class pairs kept. -/
def posKeep (s : Fin 4096 → Ideal .f32) (b : Fin 4096 → BitVec 1) (k : Fin 4096) : BitVec 1 :=
  IntOp.andi (pos s b k) (FloatOps.cmpf .olt (FloatOps.subf (s k) (lit 0x3DCCCCCD#32)) (maxNeg s b))

theorem posKeep_same (s : Fin 4096 → Ideal .f32) (b : Fin 4096 → BitVec 1) (k : Fin 4096) (h : posKeep s b k = 1#1) : b k = 1#1 := by
  have key : ∀ x y z : BitVec 1, IntOp.andi (IntOp.andi x y) z = 1#1 → x = 1#1 := by decide
  exact key _ _ _ h

theorem negKeep_other (s : Fin 4096 → Ideal .f32) (b : Fin 4096 → BitVec 1) (k : Fin 4096) (h : negKeep s b k = 1#1) : b k = 0#1 := by
  have key : ∀ x z : BitVec 1, IntOp.andi (~~~x) z = 1#1 → x = 0#1 := by decide
  exact key _ _ h

/-- An infimum taken once more with infinity, and a supremum with minus infinity, are themselves. -/
theorem min_top_left (x : Ideal .f32) : FloatOps.minimumf (lit 0x7F800000#32) x = x := by
  rw [lit_top]; show min (⊤ : EReal) x = x; exact min_eq_right le_top

theorem max_bot_left (x : Ideal .f32) : FloatOps.maximumf (lit 0xFF800000#32) x = x := by
  rw [lit_bot]; show max (⊥ : EReal) x = x; exact max_eq_right bot_le

/-! ## An element of the two results -/

/-- The scaled similarity of a pair: the factor is chosen by its class. -/
def kZ (x : Ideal .f32) (b : BitVec 1) : Ideal .f32 :=
  FloatOps.mulf (Scalar.select b (lit 0xC0000000#32) (lit 0x42200000#32)) (FloatOps.subf x (lit 0x3F000000#32))

def kLoss (x : Ideal .f32) (b pk nk v : BitVec 1) : Ideal .f32 :=
  Scalar.select (IntOp.andi v (IntOp.ori pk nk))
    (Scalar.select b (kLse (kZ x b)) (FloatOps.mulf (lit 0x3D4CCCCD#32) (kLse (kZ x b)))) (lit 0x00000000#32)

def kGrad (x : Ideal .f32) (b pk nk v : BitVec 1) (pc nc : Ideal .f32) : Ideal .f32 :=
  Scalar.select (IntOp.andi v (IntOp.ori pk nk))
    (FloatOps.mulf (Scalar.select b (FloatOps.divf (lit 0xC0000000#32) pc) (FloatOps.divf (lit 0x40000000#32) nc)) (kSig (kZ x b)))
    (lit 0x00000000#32)

/-- The reference scales every similarity by both factors. -/
def rZ (w : BitVec 32) (x : Ideal .f32) : Ideal .f32 := FloatOps.mulf (lit w) (FloatOps.subf x (lit 0x3F000000#32))

def rLoss (x : Ideal .f32) (pk nk v : BitVec 1) : Ideal .f32 :=
  FloatOps.addf
    (Scalar.select (IntOp.andi v pk) (FloatOps.mulf (lit 0x3F800000#32) (rLse (rZ 0xC0000000#32 x))) (lit 0x00000000#32))
    (Scalar.select (IntOp.andi v nk) (FloatOps.mulf (lit 0x3D4CCCCD#32) (rLse (rZ 0x42200000#32 x))) (lit 0x00000000#32))

def rGrad (x : Ideal .f32) (pk nk v : BitVec 1) (pc nc : Ideal .f32) : Ideal .f32 :=
  FloatOps.addf
    (Scalar.select (IntOp.andi v pk) (FloatOps.hostDivf (FloatOps.mulf (lit 0xC0000000#32) (rSig (rZ 0xC0000000#32 x))) pc) (lit 0x00000000#32))
    (Scalar.select (IntOp.andi v nk) (FloatOps.hostDivf (FloatOps.mulf (lit 0x40000000#32) (rSig (rZ 0x42200000#32 x))) nc) (lit 0x00000000#32))

/-- A kept pair belongs to one class only: the four cases the two masks and the row's validity leave. -/
theorem keep_cases (b pk nk v : BitVec 1) (hp : pk = 1#1 → b = 1#1) (hn : nk = 1#1 → b = 0#1) :
    (IntOp.andi v (IntOp.ori pk nk) = 1#1 ∧ IntOp.andi v pk = 1#1 ∧ IntOp.andi v nk = 0#1 ∧ b = 1#1)
    ∨ (IntOp.andi v (IntOp.ori pk nk) = 1#1 ∧ IntOp.andi v pk = 0#1 ∧ IntOp.andi v nk = 1#1 ∧ b = 0#1)
    ∨ (IntOp.andi v (IntOp.ori pk nk) = 0#1 ∧ IntOp.andi v pk = 0#1 ∧ IntOp.andi v nk = 0#1) := by
  revert b pk nk v; decide

theorem kLoss_eq_rLoss (x : Ideal .f32) (b pk nk v : BitVec 1) (hp : pk = 1#1 → b = 1#1) (hn : nk = 1#1 → b = 0#1) :
    kLoss x b pk nk v = rLoss x pk nk v := by
  unfold kLoss rLoss kZ rZ
  rcases keep_cases b pk nk v hp hn with ⟨h1, h2, h3, rfl⟩ | ⟨h1, h2, h3, rfl⟩ | ⟨h1, h2, h3⟩ <;>
    rw [h1, h2, h3] <;> simp only [ValueIdx.select_one, ValueIdx.select_zero, kLse_eq_rLse, lit_one, lit_zero]
  · show _ = (1 : EReal) * _ + 0
    rw [one_mul, add_zero]
  · show _ = (0 : EReal) + _
    rw [zero_add]
  · show (0 : EReal) = 0 + 0
    rw [add_zero]

theorem div_mul_comm (w y c : EReal) (hc : c ≠ 0) : Ideal.div w c * y = Ideal.div (w * y) c := by
  unfold Ideal.div
  rw [if_neg hc, if_neg hc, mul_assoc, mul_comm c⁻¹ y, mul_assoc]

theorem kGrad_eq_rGrad (x : Ideal .f32) (b pk nk v : BitVec 1) (pc nc : Ideal .f32) (hp : pk = 1#1 → b = 1#1)
    (hn : nk = 1#1 → b = 0#1) (hpc : pc ≠ (0 : EReal)) (hnc : nc ≠ (0 : EReal)) :
    kGrad x b pk nk v pc nc = rGrad x pk nk v pc nc := by
  unfold kGrad rGrad kZ rZ
  rcases keep_cases b pk nk v hp hn with ⟨h1, h2, h3, rfl⟩ | ⟨h1, h2, h3, rfl⟩ | ⟨h1, h2, h3⟩ <;>
    rw [h1, h2, h3] <;> simp only [ValueIdx.select_one, ValueIdx.select_zero, kSig_eq_rSig, lit_zero]
  · exact (div_mul_comm _ _ _ hpc).trans (add_zero (_ : EReal)).symm
  · exact (div_mul_comm _ _ _ hnc).trans (zero_add (_ : EReal)).symm
  · exact (add_zero (0 : EReal)).symm

/-! ## The two rows -/

def kValid (s : Fin 4096 → Ideal .f32) (b : Fin 4096 → BitVec 1) : BitVec 1 :=
  IntOp.andi (FloatOps.cmpf .ogt (kCount (posKeep s b)) (lit 0x00000000#32))
    (FloatOps.cmpf .ogt (kCount (negKeep s b)) (lit 0x00000000#32))

def rValid (s : Fin 4096 → Ideal .f32) (b : Fin 4096 → BitVec 1) : BitVec 1 :=
  IntOp.andi (rAny (posKeep s b)) (rAny (negKeep s b))

theorem kValid_eq_rValid (s : Fin 4096 → Ideal .f32) (b : Fin 4096 → BitVec 1) : kValid s b = rValid s b := by
  unfold kValid rValid
  rw [count_pos, count_pos]

/-- What the kernel leaves at column `j` of its first result's row, -/
def kRowLoss (s : Fin 4096 → Ideal .f32) (b : Fin 4096 → BitVec 1) (j : Fin 4096) : Ideal .f32 :=
  kLoss (s j) (b j) (posKeep s b j) (negKeep s b j) (kValid s b)

/-- and of its second result's. -/
def kRowGrad (s : Fin 4096 → Ideal .f32) (b : Fin 4096 → BitVec 1) (j : Fin 4096) : Ideal .f32 :=
  kGrad (s j) (b j) (posKeep s b j) (negKeep s b j) (kValid s b)
    (FloatOps.maximumf (kCount (posKeep s b)) (lit 0x3F800000#32)) (FloatOps.maximumf (kCount (negKeep s b)) (lit 0x3F800000#32))

/-- What the reference leaves there. -/
def rRowLoss (s : Fin 4096 → Ideal .f32) (b : Fin 4096 → BitVec 1) (j : Fin 4096) : Ideal .f32 :=
  rLoss (s j) (posKeep s b j) (negKeep s b j) (rValid s b)

def rRowGrad (s : Fin 4096 → Ideal .f32) (b : Fin 4096 → BitVec 1) (j : Fin 4096) : Ideal .f32 :=
  rGrad (s j) (posKeep s b j) (negKeep s b j) (rValid s b)
    (FloatOps.sitofp .f32 (IntOp.maxsi (rCount (posKeep s b)) 1#32)) (FloatOps.sitofp .f32 (IntOp.maxsi (rCount (negKeep s b)) 1#32))

theorem rowLoss_eq (s : Fin 4096 → Ideal .f32) (b : Fin 4096 → BitVec 1) (j : Fin 4096) : kRowLoss s b j = rRowLoss s b j := by
  unfold kRowLoss rRowLoss
  rw [kValid_eq_rValid]
  exact kLoss_eq_rLoss _ _ _ _ _ (posKeep_same s b j) (negKeep_other s b j)

theorem rowGrad_eq (s : Fin 4096 → Ideal .f32) (b : Fin 4096 → BitVec 1) (j : Fin 4096) : kRowGrad s b j = rRowGrad s b j := by
  unfold kRowGrad rRowGrad
  rw [kValid_eq_rValid, count_max, count_max]
  exact kGrad_eq_rGrad _ _ _ _ _ _ _ (posKeep_same s b j) (negKeep_other s b j) (count_max_ne _) (count_max_ne _)

end Cert.PairLoss

end
-- ==== Proof.Block.lean ====
/-
  The kernel's body at one grid point, read at an index: what its two stores leave at row `r`, column `j` of the block
  is `PairLoss.kRowLoss` and `PairLoss.kRowGrad` of the block's row of similarities and of same-class bits. The payload
  functions are the generated skeleton's; here each is read at an index, reductions as folds over the row.
-/
module

public import proofs.«01_k».proof.Proof.Row
public import proofs.«01_k».proof.Proof.Gen.KernelIdeal.Skeleton
public import Idealize.ShloMosaic.Lib.Pipeline.Value
public import Idealize.ShloMosaic.Lib.ValueLayoutCasts

@[expose] public section

noncomputable section

namespace Cert.PairLoss.Block

open Cert.KernelIdeal Cert.KernelIdeal.Gen Idealize.ShloMosaic Idealize.ShloMosaic.ValueIdx Cert.PairLoss

/-! ## Layout operations and reductions of a block -/

/-- A column broadcast over the block's columns, -/
theorem bcast_col {α : Type} (x : S256x1.Idx → α) (r : Fin 256) (k : Fin 4096) :
    broadcastTo S256x4096 x broadcasts_S256x1_S256x4096 (ix2 r k) = x (ix2 r (0 : Fin 1)) :=
  broadcastTo_apply x broadcasts_S256x1_S256x4096 (ix2 r k) (ix2 r (0 : Fin 1)) fun a => by
    match a with
    | ⟨0, _⟩ => rfl
    | ⟨1, _⟩ => rfl

/-- and a row over its rows. -/
theorem bcast_row {α : Type} (x : S1x4096.Idx → α) (r : Fin 256) (k : Fin 4096) :
    broadcastTo S256x4096 x broadcasts_S1x4096_S256x4096 (ix2 r k) = x (ix2 (0 : Fin 1) k) :=
  broadcastTo_apply x broadcasts_S1x4096_S256x4096 (ix2 r k) (ix2 (0 : Fin 1) k) fun a => by
    match a with
    | ⟨0, _⟩ => rfl
    | ⟨1, _⟩ => rfl

/-- A vector of the rows as a column. -/
theorem cast_col {α : Type} (x : S256.Idx → α) (r : Fin 256) :
    shapeCast S256x1 x shapeCasts_S256_S256x1 (ix2 r (0 : Fin 1)) = x (ix1 r) :=
  shapeCast_apply x shapeCasts_S256_S256x1 (ix2 r (0 : Fin 1)) (ix1 r) (by
    rw [Shape.rowMajor_val_one, Shape.rowMajor_val_two]
    show r.val = r.val * 1 + 0
    omega)

theorem lift_row (r : Fin 256) (k : Fin 4096) : (reduces_S256x4096_S256).lift (ix1 r) k = ix2 r k :=
  funext fun a => Fin.ext (by
    match a with
    | ⟨0, _⟩ => rfl
    | ⟨1, _⟩ => rfl)

theorem min_row (x : FVec Ideal S256x4096 .f32) (hφ : FKind.Formats .f32)
    (hacc : (0x7F800000#32 : BitVec FTy.f32.bits) = FKind.minimumf.neutral .f32 hφ) (r : Fin 256) :
    multiReduction .minimumf [1] S256 x 0x7F800000#32 reduces_S256x4096_S256 hφ hacc (ix1 r)
      = Finset.univ.fold FloatOps.minimumf (lit 0x7F800000#32) fun k : Fin 4096 => x (ix2 r k) := by
  rw [multiReduction_minimumf_eq_fold]
  refine (reduces_S256x4096_S256.fold_filter_drop_single _ _ x (ix1 r)).trans ?_
  exact congrArg (Finset.fold FloatOps.minimumf (lit 0x7F800000#32) · Finset.univ) (funext fun k => congrArg x (lift_row r k))

theorem max_row (x : FVec Ideal S256x4096 .f32) (hφ : FKind.Formats .f32)
    (hacc : (0xFF800000#32 : BitVec FTy.f32.bits) = FKind.maximumf.neutral .f32 hφ) (r : Fin 256) :
    multiReduction .maximumf [1] S256 x 0xFF800000#32 reduces_S256x4096_S256 hφ hacc (ix1 r)
      = Finset.univ.fold FloatOps.maximumf (lit 0xFF800000#32) fun k : Fin 4096 => x (ix2 r k) := by
  rw [multiReduction_maximumf_eq_fold]
  refine (reduces_S256x4096_S256.fold_filter_drop_single _ _ x (ix1 r)).trans ?_
  exact congrArg (Finset.fold FloatOps.maximumf (lit 0xFF800000#32) · Finset.univ) (funext fun k => congrArg x (lift_row r k))

theorem sum_row (x : FVec Ideal S256x4096 .f32) (hφ : FKind.Formats .f32)
    (hacc : (0x00000000#32 : BitVec FTy.f32.bits) = FKind.add.neutral .f32 hφ) (r : Fin 256) :
    multiReduction .add [1] S256 x 0x00000000#32 reduces_S256x4096_S256 hφ hacc (ix1 r)
      = ∑ k : Fin 4096, x (ix2 r k) := by
  rw [Ideal.multiReduction_add_single]
  exact Finset.sum_congr rfl fun k _ => congrArg x (lift_row r k)

/-! ## The payloads at an index -/

section Payloads

variable (v0 : Vec Ideal S256x128 .f32) (v1 : Vec Ideal S4096x128 .f32) (v3 : Vec Ideal S256x1 .i32) (v5 : Vec Ideal S1x4096 .i32)

/-- Row `r` of the block's similarities, -/
def sim (r : Fin 256) : Fin 4096 → Ideal .f32 := fun k => k0_pay4 (F := Ideal) v0 v1 (ix2 r k)
/-- and of its same-class bits. -/
def same (r : Fin 256) : Fin 4096 → BitVec 1 := fun k => k0_pay5 (F := Ideal) v3 v5 (ix2 r k)

theorem pay6_apply (r : Fin 256) (k : Fin 4096) :
    k0_pay6 (F := Ideal) v0 v1 v3 v5 (ix2 r k) = pos (sim v0 v1 r) (same v3 v5 r) k := rfl

theorem pay7_apply (r : Fin 256) (k : Fin 4096) :
    k0_pay7 (F := Ideal) v0 v1 v3 v5 (ix2 r k) = negKeep (sim v0 v1 r) (same v3 v5 r) k := by
  have e := (bcast_col _ r k).trans ((cast_col _ r).trans
    (min_row (select (k0_pay6 (F := Ideal) v0 v1 v3 v5) (k0_pay4 v0 v1) (broadcast S256x4096 (lit 0x7F800000#32))) (.inl rfl) rfl r))
  have key : ∀ x : BitVec 1, IntOp.xori x 1#1 = ~~~x := by decide
  unfold k0_pay7 negKeep minPos
  refine (congrArg (fun w => IntOp.andi (IntOp.xori (same v3 v5 r k) 1#1)
    (FloatOps.cmpf .ogt (FloatOps.addf (sim v0 v1 r k) (lit 0x3DCCCCCD#32)) w)) e).trans ?_
  rw [key]
  rfl

/-- The masked similarities the kernel takes the maximum of: it writes minus infinity as zero minus infinity. -/
theorem masked_eq : select (k0_pay5 (F := Ideal) v3 v5)
      (broadcast S256x4096 (Scalar.subf (Scalar.ofBits .f32 0x00000000#32) (Scalar.ofBits .f32 0x7F800000#32))) (k0_pay4 v0 v1)
    = select (k0_pay5 (F := Ideal) v3 v5) (broadcast S256x4096 (lit 0xFF800000#32)) (k0_pay4 v0 v1) :=
  congrArg (fun w => select (k0_pay5 (F := Ideal) v3 v5) (broadcast S256x4096 w) (k0_pay4 v0 v1)) zero_sub_top

theorem pay8_apply (r : Fin 256) (k : Fin 4096) :
    k0_pay8 (F := Ideal) v0 v1 v3 v5 (ix2 r k) = posKeep (sim v0 v1 r) (same v3 v5 r) k := by
  have e := (bcast_col _ r k).trans ((cast_col _ r).trans
    (max_row (select (k0_pay5 (F := Ideal) v3 v5) (broadcast S256x4096 (lit 0xFF800000#32)) (k0_pay4 v0 v1)) (.inl rfl) rfl r))
  unfold k0_pay8 posKeep maxNeg
  rw [masked_eq]
  exact congrArg (fun w => IntOp.andi (pos (sim v0 v1 r) (same v3 v5 r) k)
    (FloatOps.cmpf .olt (FloatOps.subf (sim v0 v1 r k) (lit 0x3DCCCCCD#32)) w)) e

theorem pay9_apply (r : Fin 256) :
    k0_pay9 (F := Ideal) v0 v1 v3 v5 (ix2 r (0 : Fin 1)) = kCount (posKeep (sim v0 v1 r) (same v3 v5 r)) := by
  unfold k0_pay9
  refine ((cast_col _ r).trans (sum_row _ (.inl rfl) rfl r)).trans (Finset.sum_congr rfl fun k _ => ?_)
  rw [← pay8_apply]
  rfl

theorem pay11_apply (r : Fin 256) :
    k0_pay11 (F := Ideal) (k0_pay10 v0 v1 v3 v5) (ix2 r (0 : Fin 1)) = kCount (negKeep (sim v0 v1 r) (same v3 v5 r)) := by
  unfold k0_pay11
  refine ((cast_col _ r).trans (sum_row _ (.inl rfl) rfl r)).trans (Finset.sum_congr rfl fun k _ => ?_)
  rw [← pay7_apply]
  rfl

theorem pay12_apply (r : Fin 256) :
    k0_pay12 (F := Ideal) (k0_pay9 v0 v1 v3 v5) (k0_pay10 v0 v1 v3 v5) (ix2 r (0 : Fin 1))
      = kValid (sim v0 v1 r) (same v3 v5 r) := by
  unfold kValid
  rw [← pay9_apply, ← pay11_apply]
  rfl

theorem pay1_apply (r : Fin 256) (k : Fin 4096) :
    k0_pay1 (k0_pay7 (F := Ideal) v0 v1 v3 v5) (k0_pay8 v0 v1 v3 v5)
        (k0_pay12 (k0_pay9 v0 v1 v3 v5) (k0_pay10 v0 v1 v3 v5)) (ix2 r k)
      = IntOp.andi (kValid (sim v0 v1 r) (same v3 v5 r))
          (IntOp.ori (posKeep (sim v0 v1 r) (same v3 v5 r) k) (negKeep (sim v0 v1 r) (same v3 v5 r) k)) := by
  rw [← pay12_apply, ← pay7_apply, ← pay8_apply]
  exact congrArg (fun w => IntOp.andi w _) (bcast_col _ r k)

theorem pay17_apply (r : Fin 256) (k : Fin 4096) :
    k0_pay17 (F := Ideal) (k0_pay5 v3 v5) (k0_pay9 v0 v1 v3 v5) (k0_pay10 v0 v1 v3 v5) (ix2 r k)
      = Scalar.select (same v3 v5 r k)
          (FloatOps.divf (lit 0xC0000000#32)
            (FloatOps.maximumf (kCount (posKeep (sim v0 v1 r) (same v3 v5 r))) (lit 0x3F800000#32)))
          (FloatOps.divf (lit 0x40000000#32)
            (FloatOps.maximumf (kCount (negKeep (sim v0 v1 r) (same v3 v5 r))) (lit 0x3F800000#32))) := by
  unfold k0_pay17
  rw [← pay9_apply, ← pay11_apply, shapeCast_self, shapeCast_self]
  show Scalar.select (same v3 v5 r k) (broadcastTo S256x4096 _ broadcasts_S256x1_S256x4096 (ix2 r k))
    (broadcastTo S256x4096 _ broadcasts_S256x1_S256x4096 (ix2 r k)) = _
  rw [bcast_col, bcast_col]
  rfl

theorem pay16_apply (r : Fin 256) (k : Fin 4096) :
    k0_pay16 (F := Ideal) (k0_pay4 v0 v1) (k0_pay5 v3 v5) (ix2 r k)
      = Scalar.select (same v3 v5 r k) (kLse (kZ (sim v0 v1 r k) (same v3 v5 r k)))
          (FloatOps.mulf (lit 0x3D4CCCCD#32) (kLse (kZ (sim v0 v1 r k) (same v3 v5 r k)))) := rfl

theorem pay15_apply (r : Fin 256) (k : Fin 4096) :
    k0_pay15 (F := Ideal) (k0_pay4 v0 v1) (k0_pay5 v3 v5) (ix2 r k) = kSig (kZ (sim v0 v1 r k) (same v3 v5 r k)) := rfl

/-- Element `n` of a flattened block is the block's at row `n / 4096` and column `n % 4096`. -/
theorem cast_flat {α : Type} (x : S256x4096.Idx → α) (r : Fin 256) (k : Fin 4096) (n : S1048576.Idx)
    (hn : (n 0).val = r.val * 4096 + k.val) :
    shapeCast S1048576 x shapeCasts_S256x4096_S1048576 n = x (ix2 r k) :=
  shapeCast_apply x shapeCasts_S256x4096_S1048576 n (ix2 r k) (by
    rw [Shape.rowMajor_val_one, Shape.rowMajor_val_two]
    show r.val * 4096 + k.val = (n 0).val
    omega)

/-- What the first store leaves, -/
theorem store_loss (r : Fin 256) (k : Fin 4096) (n : S1048576.Idx) (hn : (n 0).val = r.val * 4096 + k.val) :
    k0_pay2 (k0_pay7 (F := Ideal) v0 v1 v3 v5) (k0_pay8 v0 v1 v3 v5)
        (k0_pay12 (k0_pay9 v0 v1 v3 v5) (k0_pay10 v0 v1 v3 v5)) (k0_pay16 (k0_pay4 v0 v1) (k0_pay5 v3 v5)) n
      = kRowLoss (sim v0 v1 r) (same v3 v5 r) k := by
  unfold k0_pay2
  rw [cast_flat _ r k n hn]
  unfold kRowLoss kLoss
  rw [← pay1_apply, ← pay16_apply]
  rfl

/-- and the second. -/
theorem store_grad (r : Fin 256) (k : Fin 4096) (n : S1048576.Idx) (hn : (n 0).val = r.val * 4096 + k.val) :
    k0_pay3 (k0_pay7 (F := Ideal) v0 v1 v3 v5) (k0_pay8 v0 v1 v3 v5)
        (k0_pay12 (k0_pay9 v0 v1 v3 v5) (k0_pay10 v0 v1 v3 v5)) (k0_pay15 (k0_pay4 v0 v1) (k0_pay5 v3 v5))
        (k0_pay17 (k0_pay5 v3 v5) (k0_pay9 v0 v1 v3 v5) (k0_pay10 v0 v1 v3 v5)) n
      = kRowGrad (sim v0 v1 r) (same v3 v5 r) k := by
  unfold k0_pay3
  rw [cast_flat _ r k n hn]
  unfold kRowGrad kGrad
  rw [← pay1_apply, ← pay15_apply, ← pay17_apply]
  rfl

/-- A similarity of the block: the product of its two rows. -/
theorem lhs_0 (i : S256x4096.Idx) (q : dot_S256x128_S4096x128_S256x4096_1_1_0_0_n_n.contr.Idx) :
    (dot_S256x128_S4096x128_S256x4096_1_1_0_0_n_n.lhsIdx i q 0).val = (i 0).val := by
  unfold DotDims.lhsIdx
  rw [dif_neg (show ¬(0 : Fin S256x128.rank) ∈ dot_S256x128_S4096x128_S256x4096_1_1_0_0_n_n.lhsBatch by decide),
    dif_pos (show (0 : Fin S256x128.rank) ∈ dot_S256x128_S4096x128_S256x4096_1_1_0_0_n_n.lhsNonContracting by decide)]
  rfl

theorem lhs_1 (i : S256x4096.Idx) (q : dot_S256x128_S4096x128_S256x4096_1_1_0_0_n_n.contr.Idx) :
    (dot_S256x128_S4096x128_S256x4096_1_1_0_0_n_n.lhsIdx i q 1).val = (q ⟨0, by decide⟩).val :=
  dot_S256x128_S4096x128_S256x4096_1_1_0_0_n_n.lhsIdx_val_of_single rfl i q

theorem rhs_0 (i : S256x4096.Idx) (q : dot_S256x128_S4096x128_S256x4096_1_1_0_0_n_n.contr.Idx) :
    (dot_S256x128_S4096x128_S256x4096_1_1_0_0_n_n.rhsIdx i q 0).val = (i 1).val := by
  unfold DotDims.rhsIdx
  rw [dif_neg (show ¬(0 : Fin S4096x128.rank) ∈ dot_S256x128_S4096x128_S256x4096_1_1_0_0_n_n.rhsBatch by decide),
    dif_pos (show (0 : Fin S4096x128.rank) ∈ dot_S256x128_S4096x128_S256x4096_1_1_0_0_n_n.rhsNonContracting by decide)]
  rfl

theorem rhs_1 (i : S256x4096.Idx) (q : dot_S256x128_S4096x128_S256x4096_1_1_0_0_n_n.contr.Idx) :
    (dot_S256x128_S4096x128_S256x4096_1_1_0_0_n_n.rhsIdx i q 1).val = (q ⟨0, by decide⟩).val :=
  dot_S256x128_S4096x128_S256x4096_1_1_0_0_n_n.rhsIdx_val_of_single rfl i q

theorem sim_apply (r : Fin 256) (k : Fin 4096) :
    sim v0 v1 r k = ∑ l : Fin 128, (v0 (ix2 r l) * v1 (ix2 k l) : EReal) := by
  unfold sim k0_pay4
  refine (Ideal.matmul_constant_zero_apply (φ₁ := .f32) (φ₂ := .f32) dot_S256x128_S4096x128_S256x4096_1_1_0_0_n_n none v0 v1
    (ix2 r k)).trans ?_
  rw [← Equiv.sum_comp (contrEquiv1 dot_S256x128_S4096x128_S256x4096_1_1_0_0_n_n 128 rfl rfl).symm]
  refine Finset.sum_congr rfl fun l _ => ?_
  have hl := contrEquiv1_symm_val dot_S256x128_S4096x128_S256x4096_1_1_0_0_n_n 128 rfl rfl l
  have el : dot_S256x128_S4096x128_S256x4096_1_1_0_0_n_n.lhsIdx (ix2 r k)
      ((contrEquiv1 dot_S256x128_S4096x128_S256x4096_1_1_0_0_n_n 128 rfl rfl).symm l) = ix2 r l := funext fun a => Fin.ext (by
    match a with
    | ⟨0, _⟩ => exact lhs_0 _ _
    | ⟨1, _⟩ => exact (lhs_1 _ _).trans hl)
  have er : dot_S256x128_S4096x128_S256x4096_1_1_0_0_n_n.rhsIdx (ix2 r k)
      ((contrEquiv1 dot_S256x128_S4096x128_S256x4096_1_1_0_0_n_n 128 rfl rfl).symm l) = ix2 k l := funext fun a => Fin.ext (by
    match a with
    | ⟨0, _⟩ => exact rhs_0 _ _
    | ⟨1, _⟩ => exact (rhs_1 _ _).trans hl)
  rw [el, er]

theorem same_apply (r : Fin 256) (k : Fin 4096) :
    same v3 v5 r k = IntOp.cmpi .eq (v3 (ix2 r (0 : Fin 1))) (v5 (ix2 (0 : Fin 1) k)) := by
  unfold same k0_pay5
  rw [shapeCast_self, shapeCast_self]
  show IntOp.cmpi .eq (broadcastTo S256x4096 _ broadcasts_S256x1_S256x4096 (ix2 r k))
    (broadcastTo S256x4096 _ broadcasts_S1x4096_S256x4096 (ix2 r k)) = _
  rw [bcast_col, bcast_row]

end Payloads

end Cert.PairLoss.Block

end
-- ==== Proof.RefRow.lean ====
/-
  The reference read at an index: element `i` of its two results is `PairLoss.rRowLoss` and `PairLoss.rRowGrad` of row
  `i / 4096` of the similarities and of the same-class bits, at column `i % 4096`. The stages are the generated Read
  module's; here the six reductions are read as folds over a row and the stages are chained.
-/
module

public import proofs.«01_k».proof.Proof.Row
public import proofs.«01_k».proof.Proof.Gen.ReferenceIdeal.Read

@[expose] public section

noncomputable section

namespace Cert.PairLoss.Ref

open Cert.ReferenceIdeal Cert.ReferenceIdeal.Gen Cert.ReferenceIdeal.Read Idealize.ShloMosaic Idealize.ShloMosaic.ValueIdx Cert.PairLoss

/-! ## Reductions of a row -/

theorem reduces : S4096x4096.Reduces [1] S4096 := by decide

theorem lift_row (r k : Fin 4096) : reduces.lift (ix1 r) k = ix2 r k :=
  funext fun a => Fin.ext (by
    match a with
    | ⟨0, _⟩ => rfl
    | ⟨1, _⟩ => rfl)

theorem fold_row {α : Type} (f : α → α → α) [Std.Commutative f] [Std.Associative f] (x : S4096x4096.Idx → α) (init : S_.Idx → α)
    (a : α) (ha : init (Shape.Idx.first h_S_) = a) (r : Fin 4096) :
    Host.reduce f x init reducesTo_S4096x4096_S4096_d1 h_S_ (ix1 r)
      = Finset.univ.fold f a fun k : Fin 4096 => x (ix2 r k) := by
  rw [Host.reduce_eq_fold_single f x init reducesTo_S4096x4096_S4096_d1 reduces h_S_ (ix1 r), ha]
  exact congrArg (Finset.fold f a · Finset.univ) (funext fun k => congrArg x (lift_row r k))

/-! ## The stages at an index -/

section Stages

variable (x0 : (⟨S4096x128, .f32⟩ : BufTy).Contents (Elt Ideal)) (x1 : (⟨S4096, .i32⟩ : BufTy).Contents (Elt Ideal))

/-- Row `r` of the similarities, -/
def sim (r : Fin 4096) : Fin 4096 → Ideal .f32 := fun k => val_main_v1 (F := Ideal) x0 (ix2 r k)
/-- and of the same-class bits. -/
def same (r : Fin 4096) : Fin 4096 → BitVec 1 := fun k => val_main_v6 (F := Ideal) x1 (ix2 r k)

theorem sim_apply (r k : Fin 4096) : sim x0 r k = ∑ l : Fin 128, (x0 (ix2 r l) * x0 (ix2 k l) : EReal) := by
  unfold sim
  rw [val_main_v1_apply]
  refine Finset.sum_congr rfl fun l _ => ?_
  rw [val_main_v0_apply]
  have e1 : lidx_main_v1 (ix2 r k) l = ix2 r l := funext fun a => by
    match a with
    | ⟨0, _⟩ => rfl
    | ⟨1, _⟩ => rfl
  have e2 : idx_main_v0 (ridx_main_v1 (ix2 r k) l) = ix2 k l := funext fun a => by
    match a with
    | ⟨0, _⟩ => rfl
    | ⟨1, _⟩ => rfl
  rw [e1, e2]

theorem same_apply (r k : Fin 4096) : same x1 r k = IntOp.cmpi .eq (x1 (ix1 r)) (x1 (ix1 k)) := by
  unfold same
  rw [val_main_v6_apply, val_main_v4_apply, val_main_v5_apply, val_main_v2_apply, val_main_v3_apply]
  have e1 : idx_main_v2 (idx_main_v4 (ix2 r k)) = ix1 r := funext fun a => by
    match a with
    | ⟨0, _⟩ => rfl
  have e2 : idx_main_v3 (idx_main_v5 (ix2 r k)) = ix1 k := funext fun a => by
    match a with
    | ⟨0, _⟩ => rfl
  rw [e1, e2]

theorem v9_apply (r k : Fin 4096) : val_main_v9 (F := Ideal) x0 x1 (ix2 r k) = pos (sim x0 r) (same x1 r) k := by
  rw [val_main_v9_apply, val_main_v8_apply, val_main_v7_apply, val_main_cst_apply]
  rfl

theorem v14_apply (r : Fin 4096) : val_main_v14 (F := Ideal) x0 x1 (ix1 r) = minPos (sim x0 r) (same x1 r) := by
  rw [val_main_v14_apply, val_main_v13_apply, val_main_cst_2_apply]
  refine (min_top_left _).trans ?_
  unfold val_main_v12
  rw [fold_row FloatOps.minimumf _ _ (lit 0x7F800000#32) rfl]
  unfold minPos
  refine congrArg (Finset.fold FloatOps.minimumf (lit 0x7F800000#32) · Finset.univ) (funext fun k => ?_)
  rw [val_main_v11_apply, v9_apply, val_main_call0_v0_apply, val_main_cst_0_apply]
  rfl

theorem v18_apply (r : Fin 4096) : val_main_v18 (F := Ideal) x0 x1 (ix1 r) = maxNeg (sim x0 r) (same x1 r) := by
  rw [val_main_v18_apply, val_main_v17_apply, val_main_cst_5_apply]
  refine (max_bot_left _).trans ?_
  unfold val_main_v16
  rw [fold_row FloatOps.maximumf _ _ (lit 0xFF800000#32) rfl]
  unfold maxNeg
  refine congrArg (Finset.fold FloatOps.maximumf (lit 0xFF800000#32) · Finset.univ) (funext fun k => ?_)
  rw [val_main_v15_apply, val_main_v10_apply, val_main_call1_v0_apply, val_main_cst_3_apply]
  have key : ∀ (b : BitVec 1) (x y : Ideal .f32), Scalar.select (~~~b) x y = Scalar.select b y x := by
    intro b x y
    rcases (show b = 0#1 ∨ b = 1#1 by revert b; decide) with rfl | rfl
    · exact (select_one x y).trans (select_zero y x).symm
    · exact (select_zero x y).trans (select_one y x).symm
  exact key _ _ _

theorem row_idx (f : S4096x4096.Idx → S4096x1.Idx) (g : S4096x1.Idx → S4096.Idx) (r k : Fin 4096)
    (h : (g (f (ix2 r k)) 0).val = r.val) : g (f (ix2 r k)) = ix1 r := funext fun a => Fin.ext (by
  match a with
  | ⟨0, _⟩ => exact h)

theorem v24_apply (r k : Fin 4096) : val_main_v24 (F := Ideal) x0 x1 (ix2 r k) = negKeep (sim x0 r) (same x1 r) k := by
  rw [val_main_v24_apply, val_main_v10_apply, val_main_v23_apply, val_main_v20_apply, val_main_v19_apply, val_main_cst_6_apply,
    val_main_v22_apply, val_main_v21_apply, row_idx idx_main_v22 idx_main_v21 r k rfl, v14_apply]
  rfl

theorem v30_apply (r k : Fin 4096) : val_main_v30 (F := Ideal) x0 x1 (ix2 r k) = posKeep (sim x0 r) (same x1 r) k := by
  rw [val_main_v30_apply, v9_apply, val_main_v29_apply, val_main_v26_apply, val_main_v25_apply, val_main_cst_7_apply,
    val_main_v28_apply, val_main_v27_apply, row_idx idx_main_v28 idx_main_v27 r k rfl, v18_apply]
  rfl

theorem v33_apply (r : Fin 4096) : val_main_v33 (F := Ideal) x0 x1 (ix1 r) = rValid (sim x0 r) (same x1 r) := by
  rw [val_main_v33_apply]
  unfold val_main_v31 val_main_v32
  rw [fold_row IntOp.ori _ _ (0#1) rfl, fold_row IntOp.ori _ _ (0#1) rfl]
  unfold rValid rAny
  simp only [v30_apply, v24_apply]

theorem v76_apply (r : Fin 4096) :
    val_main_v76 (F := Ideal) x0 x1 (ix1 r) = (FloatOps.sitofp .f32 (IntOp.maxsi (rCount (posKeep (sim x0 r) (same x1 r))) 1#32) : Ideal .f32) := by
  rw [val_main_v76_apply, val_main_v75_apply, val_main_v74_apply, val_main_c_18_apply]
  unfold val_main_v73
  rw [fold_row IntOp.addi _ _ (0#32) rfl]
  unfold rCount
  simp only [val_main_v72_apply, v30_apply]

theorem v81_apply (r : Fin 4096) :
    val_main_v81 (F := Ideal) x0 x1 (ix1 r) = (FloatOps.sitofp .f32 (IntOp.maxsi (rCount (negKeep (sim x0 r) (same x1 r))) 1#32) : Ideal .f32) := by
  rw [val_main_v81_apply, val_main_v80_apply, val_main_v79_apply, val_main_c_20_apply]
  unfold val_main_v78
  rw [fold_row IntOp.addi _ _ (0#32) rfl]
  unfold rCount
  simp only [val_main_v77_apply, v24_apply]

/-! ## The pointwise stages -/

theorem v37_apply (r k : Fin 4096) : val_main_v37 (F := Ideal) x0 (ix2 r k) = rZ 0xC0000000#32 (sim x0 r k) := by
  rw [val_main_v37_apply, val_main_v36_apply, val_main_cst_10_apply, val_main_v35_apply, val_main_v34_apply, val_main_cst_9_apply]
  rfl

theorem v41_apply (r k : Fin 4096) : val_main_v41 (F := Ideal) x0 (ix2 r k) = rZ 0x42200000#32 (sim x0 r k) := by
  rw [val_main_v41_apply, val_main_v40_apply, val_main_cst_12_apply, val_main_v39_apply, val_main_v38_apply, val_main_cst_11_apply]
  rfl

theorem v54_apply (i : S4096x4096.Idx) : val_main_v54 (F := Ideal) x0 i = rLse (val_main_v37 (F := Ideal) x0 i) := by
  rw [val_main_v54_apply, val_main_v46_apply, val_main_v48_apply, val_main_v53_apply, val_main_v43_apply, val_main_v52_apply,
    val_main_v51_apply, val_main_v50_apply, val_main_v49_apply, val_main_v45_apply, val_main_v42_apply, val_main_v44_apply,
    val_main_v47_apply]
  simp only [val_main_cst_13_apply]
  rfl

theorem v69_apply (i : S4096x4096.Idx) : val_main_v69 (F := Ideal) x0 i = rLse (val_main_v41 (F := Ideal) x0 i) := by
  rw [val_main_v69_apply, val_main_v61_apply, val_main_v63_apply, val_main_v68_apply, val_main_v58_apply, val_main_v67_apply,
    val_main_v66_apply, val_main_v65_apply, val_main_v64_apply, val_main_v60_apply, val_main_v57_apply, val_main_v59_apply,
    val_main_v62_apply]
  simp only [val_main_cst_15_apply]
  rfl

theorem v87_apply (i : S4096x4096.Idx) : val_main_v87 (F := Ideal) x0 i = rSig (val_main_v37 (F := Ideal) x0 i) := by
  rw [val_main_v87_apply, val_main_v86_apply, val_main_cst_22_apply, val_main_v85_apply, val_main_v84_apply, val_main_cst_21_apply,
    val_main_v83_apply, val_main_v82_apply]
  rfl

theorem v98_apply (i : S4096x4096.Idx) : val_main_v98 (F := Ideal) x0 i = rSig (val_main_v41 (F := Ideal) x0 i) := by
  rw [val_main_v98_apply, val_main_v97_apply, val_main_cst_25_apply, val_main_v96_apply, val_main_v95_apply, val_main_cst_24_apply,
    val_main_v94_apply, val_main_v93_apply]
  rfl

/-- The row's validity, broadcast over its columns in four places. -/
theorem valid_apply (f : S4096x4096.Idx → S4096x1.Idx) (r k : Fin 4096) (h : (idx_main_v104 (f (ix2 r k)) 0).val = r.val) :
    val_main_v104 (F := Ideal) x0 x1 (f (ix2 r k)) = rValid (sim x0 r) (same x1 r) := by
  rw [val_main_v104_apply, row_idx f idx_main_v104 r k h, v33_apply]

theorem v111_apply (r k : Fin 4096) : val_main_v111 (F := Ideal) x0 x1 (ix2 r k) = rRowLoss (sim x0 r) (same x1 r) k := by
  rw [val_main_v111_apply, val_main_v107_apply, val_main_v110_apply, val_main_v106_apply, val_main_v109_apply, val_main_v105_apply,
    val_main_v108_apply, valid_apply x0 x1 idx_main_v105 r k rfl, v30_apply, v24_apply,
    val_main_v56_apply, val_main_v71_apply, val_main_v55_apply, val_main_v70_apply, val_main_cst_14_apply, val_main_cst_16_apply,
    v54_apply, v69_apply, v37_apply, v41_apply, val_main_call2_v1_apply, val_main_call3_v1_apply, val_main_call2_v0_apply,
    val_main_call3_v0_apply, val_main_cst_27_apply, val_main_cst_28_apply]
  rfl

theorem v118_apply (r k : Fin 4096) : val_main_v118 (F := Ideal) x0 x1 (ix2 r k) = rRowGrad (sim x0 r) (same x1 r) k := by
  rw [val_main_v118_apply, val_main_v114_apply, val_main_v117_apply, val_main_v113_apply, val_main_v116_apply, val_main_v112_apply,
    val_main_v115_apply, valid_apply x0 x1 idx_main_v112 r k rfl, v30_apply, v24_apply,
    val_main_v92_apply, val_main_v103_apply, val_main_v91_apply, val_main_v102_apply, val_main_v90_apply, val_main_v101_apply,
    row_idx idx_main_v91 idx_main_v90 r k rfl, row_idx idx_main_v102 idx_main_v101 r k rfl, v76_apply, v81_apply,
    val_main_v89_apply, val_main_v100_apply, val_main_v88_apply, val_main_v99_apply, val_main_cst_23_apply, val_main_cst_26_apply,
    v87_apply, v98_apply, v37_apply, v41_apply, val_main_call4_v1_apply, val_main_call5_v1_apply, val_main_call4_v0_apply,
    val_main_call5_v0_apply, val_main_cst_29_apply, val_main_cst_30_apply]
  rfl

/-- Element `n` of the first result, row `r` and column `k` of the square, -/
theorem loss_apply (n : S16777216.Idx) (r k : Fin 4096) (hn : (n 0).val = r.val * 4096 + k.val) :
    val_main_v119 (F := Ideal) x0 x1 n = rRowLoss (sim x0 r) (same x1 r) k := by
  have e : idx_main_v119 n = ix2 r k := funext fun a => Fin.ext (by
    have hk := k.isLt
    match a with
    | ⟨0, _⟩ => show (n 0).val / 4096 = r.val; omega
    | ⟨1, _⟩ => show (n 0).val % 4096 = k.val; omega)
  rw [val_main_v119_apply, e, v111_apply]

/-- and of the second. -/
theorem grad_apply (n : S16777216.Idx) (r k : Fin 4096) (hn : (n 0).val = r.val * 4096 + k.val) :
    val_main_v120 (F := Ideal) x0 x1 n = rRowGrad (sim x0 r) (same x1 r) k := by
  have e : idx_main_v120 n = ix2 r k := funext fun a => Fin.ext (by
    have hk := k.isLt
    match a with
    | ⟨0, _⟩ => show (n 0).val / 4096 = r.val; omega
    | ⟨1, _⟩ => show (n 0).val % 4096 = k.val; omega)
  rw [val_main_v120_apply, e, v118_apply]

end Stages

end Cert.PairLoss.Ref

end
-- ==== Proof.Arrays.lean ====
/-
  The kernel's run, read: its two result arrays end holding the reference's two results of the argument arrays. Point `t`
  writes rows `256 t` to `256 t + 255` of each result, a block of 1048576 of its 16777216 elements; the sixteen blocks
  tile the array.
-/
module

public import proofs.«01_k».proof.Proof.Block
public import proofs.«01_k».proof.Proof.RefRow
public import proofs.«01_k».proof.Proof.Gen.KernelIdeal.Frame

@[expose] public section

noncomputable section

namespace Cert.PairLoss.Arrays

open Cert.KernelIdeal Cert.KernelIdeal.Gen Idealize.ShloMosaic Idealize.ShloMosaic.TcCoe Idealize.SL.Sem
open Idealize.ShloMosaic.ValueIdx Cert.PairLoss
open Idealize.ShloMosaic.Pipeline (Dat)

variable (m : (ℓ : Loc nD τ sig) → Buf (Elt Ideal) ℓ) (ρ : Dev nD → PrngReg)

/-- Device `c`'s embeddings, -/
abbrev emb (c : Dev nD) : S4096x128.Idx → Ideal .f32 := m ((c : Thread nD τ).loc main_arg0)
/-- and its labels. -/
abbrev lab (c : Dev nD) : S4096.Idx → BitVec 32 := m ((c : Thread nD τ).loc main_arg1)

/-! ## The labels as a column and as a row -/

theorem V_col (c : Dev nD) (r : Fin 4096) : V m c main_v0 (ix2 r (0 : Fin 1)) = lab m c (ix1 r) := by
  have e : V m c main_v0 = fun i => shapeCast S4096x1 (lab m c) shapeCasts_S4096_S4096x1 i := by
    show StableHlo.after hostOps0 (fun b => m (c, b)) main_v0 = _
    after_results_simp
    rfl
  rw [e]
  exact shapeCast_apply _ shapeCasts_S4096_S4096x1 (ix2 r (0 : Fin 1)) (ix1 r) (by
    rw [Shape.rowMajor_val_one, Shape.rowMajor_val_two]
    show r.val = r.val * 1 + 0
    omega)

theorem V_row (c : Dev nD) (k : Fin 4096) : V m c main_v1 (ix2 (0 : Fin 1) k) = lab m c (ix1 k) := by
  have e : V m c main_v1 = fun i => shapeCast S1x4096 (lab m c) shapeCasts_S4096_S1x4096 i := by
    show StableHlo.after hostOps0 (fun b => m (c, b)) main_v1 = _
    after_results_simp
    rfl
  rw [e]
  exact shapeCast_apply _ shapeCasts_S4096_S1x4096 (ix2 (0 : Fin 1) k) (ix1 k) (by
    rw [Shape.rowMajor_val_one, Shape.rowMajor_val_two]
    show k.val = 0 * 4096 + k.val
    omega)

/-! ## The input blocks at an index -/

theorem index_0 : ∀ t : Fin grid0.N, win0_0.index t 0 * win0_0.size 0 = t.val * 256 ∧ win0_0.index t 1 * win0_0.size 1 = 0 := by
  decide +kernel
theorem index_1 : ∀ t : Fin grid0.N, win0_1.index t 0 * win0_1.size 0 = 0 ∧ win0_1.index t 1 * win0_1.size 1 = 0 := by
  decide +kernel
theorem index_2 : ∀ t : Fin grid0.N, win0_2.index t 0 * win0_2.size 0 = t.val * 256 ∧ win0_2.index t 1 * win0_2.size 1 = 0 := by
  decide +kernel
theorem index_3 : ∀ t : Fin grid0.N, win0_3.index t 0 * win0_3.size 0 = 0 ∧ win0_3.index t 1 * win0_3.size 1 = 0 := by
  decide +kernel
theorem index_4 : ∀ t : Fin grid0.N, win0_4.index t 0 * win0_4.size 0 = t.val * 1048576 ∧ win0_4.xsize (grid0.coords t) 0 = 1048576 := by
  decide +kernel
theorem index_5 : ∀ t : Fin grid0.N, win0_5.index t 0 * win0_5.size 0 = t.val * 1048576 ∧ win0_5.xsize (grid0.coords t) 0 = 1048576 := by
  decide +kernel

theorem N_val (t : Fin grid0.N) : t.val < 16 := Nat.lt_of_lt_of_eq t.isLt N_0

/-- Row `r` of point `t`'s block is this row of the whole array. -/
def row (t : Fin grid0.N) (r : Fin 256) : Fin 4096 := ⟨t.val * 256 + r.val, by have := N_val t; omega⟩

theorem iblk_0 (c : Dev nD) (t : Fin cfg0.N) (r : Fin 256) (l : Fin 128) :
    iblk m c 0 t (ix2 r l) = emb m c (ix2 (row t r) l) := by
  have e : (win0_0.rect t).emb (ix2 r l) = ix2 (row t r) l := funext fun a => Fin.ext (by
    refine (Pipeline.Window.rect_emb_val win0_0 t _ _).trans ?_
    match a with
    | ⟨0, _⟩ => exact congrArg (· + r.val) (index_0 t).1
    | ⟨1, _⟩ => exact (congrArg (· + l.val) (index_0 t).2).trans (Nat.zero_add _))
  show V m c main_arg0 ((win0_0.rect t).emb (ix2 r l)) = _
  rw [e, V_main_arg0]

theorem iblk_1 (c : Dev nD) (t : Fin cfg0.N) (k : Fin 4096) (l : Fin 128) :
    iblk m c 1 t (ix2 k l) = emb m c (ix2 k l) := by
  have e : (win0_1.rect t).emb (ix2 k l) = ix2 k l := funext fun a => Fin.ext (by
    refine (Pipeline.Window.rect_emb_val win0_1 t _ _).trans ?_
    match a with
    | ⟨0, _⟩ => exact (congrArg (· + k.val) (index_1 t).1).trans (Nat.zero_add _)
    | ⟨1, _⟩ => exact (congrArg (· + l.val) (index_1 t).2).trans (Nat.zero_add _))
  show V m c main_arg0 ((win0_1.rect t).emb (ix2 k l)) = _
  rw [e, V_main_arg0]

theorem iblk_2 (c : Dev nD) (t : Fin cfg0.N) (r : Fin 256) :
    iblk m c 2 t (ix2 r (0 : Fin 1)) = lab m c (ix1 (row t r)) := by
  have e : (win0_2.rect t).emb (ix2 r (0 : Fin 1)) = ix2 (row t r) (0 : Fin 1) := funext fun a => Fin.ext (by
    refine (Pipeline.Window.rect_emb_val win0_2 t _ _).trans ?_
    match a with
    | ⟨0, _⟩ => exact congrArg (· + r.val) (index_2 t).1
    | ⟨1, _⟩ => exact (congrArg (· + 0) (index_2 t).2).trans (Nat.zero_add _))
  show V m c main_v0 ((win0_2.rect t).emb (ix2 r (0 : Fin 1))) = _
  rw [e]
  exact V_col m c (row t r)

theorem iblk_3 (c : Dev nD) (t : Fin cfg0.N) (k : Fin 4096) :
    iblk m c 3 t (ix2 (0 : Fin 1) k) = lab m c (ix1 k) := by
  have e : (win0_3.rect t).emb (ix2 (0 : Fin 1) k) = ix2 (0 : Fin 1) k := funext fun a => Fin.ext (by
    refine (Pipeline.Window.rect_emb_val win0_3 t _ _).trans ?_
    match a with
    | ⟨0, _⟩ => exact (congrArg (· + 0) (index_3 t).1).trans (Nat.zero_add _)
    | ⟨1, _⟩ => exact (congrArg (· + k.val) (index_3 t).2).trans (Nat.zero_add _))
  show V m c main_v1 ((win0_3.rect t).emb (ix2 (0 : Fin 1) k)) = _
  rw [e]
  exact V_row m c k

/-- A row of the block's similarities is a row of the reference's, -/
theorem sim_eq (c : Dev nD) (t : Fin cfg0.N) (r : Fin 256) :
    Block.sim (iblk m c 0 t) (iblk m c 1 t) r = Ref.sim (emb m c) (row t r) := funext fun k => by
  rw [Block.sim_apply, Ref.sim_apply]
  exact Finset.sum_congr rfl fun l _ => congrArg₂ (fun x y : EReal => x * y) (iblk_0 m c t r l) (iblk_1 m c t k l)

/-- and of its same-class bits likewise. -/
theorem same_eq (c : Dev nD) (t : Fin cfg0.N) (r : Fin 256) :
    Block.same (iblk m c 2 t) (iblk m c 3 t) r = Ref.same (lab m c) (row t r) := funext fun k => by
  rw [Block.same_apply, Ref.same_apply]
  exact congrArg₂ (IntOp.cmpi .eq) (iblk_2 m c t r) (iblk_3 m c t k)

/-! ## What the body leaves in each output window's buffer -/

theorem hz1 : (![0] : Fin 1 → Nat) = fun _ => 0 := funext fun a => by fin_cases a; rfl
theorem hz2 : (![0, 0] : Fin 2 → Nat) = fun _ => 0 := funext fun a => by fin_cases a <;> rfl

section Out

variable (x0 : Vec Ideal S256x128 .f32) (x1 : Vec Ideal S4096x128 .f32) (x2 : Vec Ideal S256x1 .i32) (x3 : Vec Ideal S1x4096 .i32)

theorem out_loss (r : Fin 256) (k : Fin 4096) (n : S1048576.Idx) (hn : (n 0).val = r.val * 4096 + k.val) :
    out0_4 x0 x1 x2 x3 n = rRowLoss (Block.sim x0 x1 r) (Block.same x2 x3 r) k := by
  unfold_out out0_4
  rw [View.canon_unit_zero hz1, View.ld_unit_zero hz2, View.ld_unit_zero hz2, View.ld_unit_zero hz2, View.ld_unit_zero hz2]
  exact (Block.store_loss x0 x1 x2 x3 r k n hn).trans (rowLoss_eq _ _ _)

theorem out_grad (r : Fin 256) (k : Fin 4096) (n : S1048576.Idx) (hn : (n 0).val = r.val * 4096 + k.val) :
    out0_5 x0 x1 x2 x3 n = rRowGrad (Block.sim x0 x1 r) (Block.same x2 x3 r) k := by
  unfold_out out0_5
  rw [View.canon_unit_zero hz1, View.ld_unit_zero hz2, View.ld_unit_zero hz2, View.ld_unit_zero hz2, View.ld_unit_zero hz2]
  exact (Block.store_grad x0 x1 x2 x3 r k n hn).trans (rowGrad_eq _ _ _)

end Out

/-! ## The result arrays -/

/-- What the first result array is shown to hold, -/
abbrev loss (c : Dev nD) : Buf (Elt Ideal) ((c : Thread nD τ).loc main_v2_0) :=
  Cert.ReferenceIdeal.Read.val_main_v119 (F := Ideal) (emb m c) (lab m c)
/-- and the second. -/
abbrev grad (c : Dev nD) : Buf (Elt Ideal) ((c : Thread nD τ).loc main_v2_1) :=
  Cert.ReferenceIdeal.Read.val_main_v120 (F := Ideal) (emb m c) (lab m c)

/-- Element `y` of point `t`'s block, as an element of the array: its row and column are those of the block's. -/
theorem place (t : Fin grid0.N) (r : Fin 256) (k : Fin 4096) (y : Nat) (hy : y = r.val * 4096 + k.val) :
    t.val * 1048576 + y = (row t r).val * 4096 + k.val := by
  show _ = (t.val * 256 + r.val) * 4096 + k.val
  omega

/-- What point `t` writes back is its block of `G` if the buffer holds `G` at the block's places. -/
theorem cut_loss (t : Fin cfg0.N) (X : S1048576.Idx → Ideal .f32) (G : S16777216.Idx → Ideal .f32)
    (h : ∀ y : S1048576.Idx, X y = G ((win0_4.rect t).emb y)) :
    (cfg0.win 4).cut (grid0.coords t) X = ((cfg0.win 4).blk t).view.read (Elt Ideal) G :=
  funext fun y => h y

theorem emb_loss (t : Fin grid0.N) (y : S1048576.Idx) :
    ((win0_4.rect t).emb y 0).val = t.val * 1048576 + (y 0).val :=
  (Pipeline.Window.rect_emb_val win0_4 t y 0).trans (congrArg (· + (y 0).val) (index_4 t).1)

theorem at_loss (c : Dev nD) (t : Fin cfg0.N) (y : S1048576.Idx) (i : S16777216.Idx) (hi : (i 0).val = t.val * 1048576 + (y 0).val) :
    out0_4 (iblk m c 0 t) (iblk m c 1 t) (iblk m c 2 t) (iblk m c 3 t) y = loss m c i := by
  have h : (y 0).val < 1048576 := (y 0).isLt
  obtain ⟨r, k, hy⟩ : ∃ (r : Fin 256) (k : Fin 4096), (y 0).val = r.val * 4096 + k.val :=
    ⟨⟨(y 0).val / 4096, by omega⟩, ⟨(y 0).val % 4096, by omega⟩, by show _ = (y 0).val / 4096 * 4096 + (y 0).val % 4096; omega⟩
  exact (out_loss _ _ _ _ r k y hy).trans ((congrArg₂ (fun s b => rRowLoss s b k) (sim_eq m c t r) (same_eq m c t r)).trans
    (Ref.loss_apply (emb m c) (lab m c) i (row t r) k (hi.trans (place t r k _ hy))).symm)

theorem flushed_loss (c : Dev nD) (t : Fin cfg0.N) :
    (dats m 0 c).flushed 4 t = ((cfg0.win 4).blk t).view.read (Elt Ideal) (loss m c) := by
  show (cfg0.win 4).cut (grid0.coords t) ((dats m 0 c).after 4 t) = _
  rw [after0_4]
  exact cut_loss t _ _ fun y => at_loss m c t y _ (emb_loss t y)

/-- What point `t` writes back is its block of `G` if the buffer holds `G` at the block's places. -/
theorem cut_grad (t : Fin cfg0.N) (X : S1048576.Idx → Ideal .f32) (G : S16777216.Idx → Ideal .f32)
    (h : ∀ y : S1048576.Idx, X y = G ((win0_5.rect t).emb y)) :
    (cfg0.win 5).cut (grid0.coords t) X = ((cfg0.win 5).blk t).view.read (Elt Ideal) G :=
  funext fun y => h y

theorem emb_grad (t : Fin grid0.N) (y : S1048576.Idx) :
    ((win0_5.rect t).emb y 0).val = t.val * 1048576 + (y 0).val :=
  (Pipeline.Window.rect_emb_val win0_5 t y 0).trans (congrArg (· + (y 0).val) (index_5 t).1)

theorem at_grad (c : Dev nD) (t : Fin cfg0.N) (y : S1048576.Idx) (i : S16777216.Idx) (hi : (i 0).val = t.val * 1048576 + (y 0).val) :
    out0_5 (iblk m c 0 t) (iblk m c 1 t) (iblk m c 2 t) (iblk m c 3 t) y = grad m c i := by
  have h : (y 0).val < 1048576 := (y 0).isLt
  obtain ⟨r, k, hy⟩ : ∃ (r : Fin 256) (k : Fin 4096), (y 0).val = r.val * 4096 + k.val :=
    ⟨⟨(y 0).val / 4096, by omega⟩, ⟨(y 0).val % 4096, by omega⟩, by show _ = (y 0).val / 4096 * 4096 + (y 0).val % 4096; omega⟩
  exact (out_grad _ _ _ _ r k y hy).trans ((congrArg₂ (fun s b => rRowGrad s b k) (sim_eq m c t r) (same_eq m c t r)).trans
    (Ref.grad_apply (emb m c) (lab m c) i (row t r) k (hi.trans (place t r k _ hy))).symm)

theorem flushed_grad (c : Dev nD) (t : Fin cfg0.N) :
    (dats m 0 c).flushed 5 t = ((cfg0.win 5).blk t).view.read (Elt Ideal) (grad m c) := by
  show (cfg0.win 5).cut (grid0.coords t) ((dats m 0 c).after 5 t) = _
  rw [after0_5]
  exact cut_grad t _ _ fun y => at_grad m c t y _ (emb_grad t y)

/-- The point whose block element `i` lies in. -/
def point (i : S16777216.Idx) : Fin cfg0.N :=
  ⟨(i 0).val / 1048576, Nat.lt_of_lt_of_eq (by have h : (i 0).val < 16777216 := (i 0).isLt; omega) N_0.symm⟩

theorem point_val (i : S16777216.Idx) :
    (point i).val * 1048576 ≤ (i 0).val ∧ (i 0).val < (point i).val * 1048576 + 1048576 := by
  show (i 0).val / 1048576 * 1048576 ≤ _ ∧ _ < (i 0).val / 1048576 * 1048576 + 1048576
  omega

theorem cover_loss (i : S16777216.Idx) :
    ∃ t : Fin cfg0.N, (cfg0.win 4).flush t = true ∧ i ∈ ((cfg0.win 4).blk t).view.set := by
  refine ⟨point i, flush0_4 _, ?_⟩
  show i ∈ ((View.whole main_v2_0).slice (win0_4.rect (point i))).set
  rw [View.set_slice_whole, Rect.mem_set_unit]
  intro a
  match a with
  | ⟨0, _⟩ =>
    show win0_4.index (point i) 0 * win0_4.size 0 ≤ (i 0 : Nat)
      ∧ (i 0 : Nat) < win0_4.index (point i) 0 * win0_4.size 0 + win0_4.xsize (grid0.coords (point i)) 0
    rw [(index_4 (point i)).1, (index_4 (point i)).2]
    exact point_val i

theorem cover_grad (i : S16777216.Idx) :
    ∃ t : Fin cfg0.N, (cfg0.win 5).flush t = true ∧ i ∈ ((cfg0.win 5).blk t).view.set := by
  refine ⟨point i, flush0_5 _, ?_⟩
  show i ∈ ((View.whole main_v2_1).slice (win0_5.rect (point i))).set
  rw [View.set_slice_whole, Rect.mem_set_unit]
  intro a
  match a with
  | ⟨0, _⟩ =>
    show win0_5.index (point i) 0 * win0_5.size 0 ≤ (i 0 : Nat)
      ∧ (i 0 : Nat) < win0_5.index (point i) 0 * win0_5.size 0 + win0_5.xsize (grid0.coords (point i)) 0
    rw [(index_5 (point i)).1, (index_5 (point i)).2]
    exact point_val i

theorem final_loss (c : Dev nD) : (dats m 0 c).arrAt 4 cfg0.N = loss m c :=
  (dats m 0 c).arrAt_eq_of_cover 4 (loss m c) (fun t _ => flushed_loss m c t) cover_loss

theorem final_grad (c : Dev nD) : (dats m 0 c).arrAt 5 cfg0.N = grad m c :=
  (dats m 0 c).arrAt_eq_of_cover 5 (grad m c) (fun t _ => flushed_grad m c t) cover_grad

/-- The kernel's run: its results hold the reference's functions of the arguments, and the arguments are unchanged. -/
theorem run : θ_run defs (onTc (τ := τ) (main (F := Ideal))) ⟨m, fun _ => 0, ρ⟩ fun r => ∀ c : Dev nD,
      r.2.mem ((c : Thread nD τ).loc main_v2_0) = loss m c
      ∧ r.2.mem ((c : Thread nD τ).loc main_v2_1) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 4).trans (final_loss m c), ((h c).1 5).trans (final_grad m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c)⟩)
    (run_main m ρ)

end Cert.PairLoss.Arrays

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Arrays
public import Idealize.ShloMosaic.Adequacy
public import Idealize.ShloMosaic.Init

@[expose] public section

noncomputable section

namespace Cert.Proof

open Idealize.ShloMosaic Idealize.ShloMosaic.TcCoe Idealize.SL.Sem

/-- The reference declares no semaphore, so its frame is its run's. -/
theorem frame_reference : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Both results of the kernel are the reference's, from memories agreeing on the arguments. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, _, Cert.PairLoss.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact (Cert.ReferenceIdeal.Read.val_main_v119_eq m' c).trans
      (congrArg₂ (Cert.ReferenceIdeal.Read.val_main_v119 (F := Ideal)) (hagree c).1 (hagree c).2)
  · exact (Cert.ReferenceIdeal.Read.val_main_v120_eq m' c).trans
      (congrArg₂ (Cert.ReferenceIdeal.Read.val_main_v120 (F := Ideal)) (hagree c).1 (hagree c).2)

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
